-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S16384x64 : Shape := ⟨2, ![16384, 64]⟩
abbrev S64 : Shape := ⟨1, ![64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S16384x64 : S_.BroadcastsInDim S16384x64 (![] : Fin 0 → Fin S16384x64.rank)
  bcast_S_S64 : S_.BroadcastsInDim S64 (![] : Fin 0 → Fin S64.rank)
  bcast_S_S64x256 : S_.BroadcastsInDim S64x256 (![] : Fin 0 → Fin S64x256.rank)
  bcast_S_S256 : S_.BroadcastsInDim S256 (![] : Fin 0 → Fin S256.rank)
  bcast_S_S128 : S_.BroadcastsInDim S128 (![] : Fin 0 → Fin S128.rank)
  bcast_S_S2 : S_.BroadcastsInDim S2 (![] : Fin 0 → Fin S2.rank)

variable [Facts]

def fn {F : FTy → Type} [FloatOps F] (main_arg0 : FVec F S16384x64 .f32) (main_arg1 : FVec F S64 .f32) (main_arg2 : FVec F S64 .f32) (main_arg3 : FVec F S64x256 .f32) (main_arg4 : FVec F S256 .f32) (main_arg5 : FVec F S256x128 .f32) (main_arg6 : FVec F S128 .f32) (main_arg7 : FVec F S128x2 .f32) (main_arg8 : FVec F S2 .f32) : IVec S16384x64 1 × IVec S64 1 × IVec S64 1 × IVec S64x256 1 × IVec S256 1 × IVec S128 1 × IVec S2 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_cst_0 : FVec F S_ .f32 := constant S_ .f32 0x3F800000#32
  let main_v3 : FVec F S64 .f32 := broadcastInDim S64 ![] bcast_S_S64 main_cst_0
  let main_v4 : IVec S64 1 := cmpf .oeq main_arg1 main_v3
  let main_cst_1 : FVec F S_ .f32 := constant S_ .f32 0x00000000#32
  let main_v5 : FVec F S64 .f32 := broadcastInDim S64 ![] bcast_S_S64 main_cst_1
  let main_v6 : IVec S64 1 := cmpf .oeq main_arg2 main_v5
  let main_v7 : FVec F S64x256 .f32 := Host.absf main_arg3
  let main_cst_2 : FVec F S_ .f32 := constant S_ .f32 0x7F800000#32
  let main_v8 : FVec F S64x256 .f32 := broadcastInDim S64x256 ![] bcast_S_S64x256 main_cst_2
  let main_v9 : IVec S64x256 1 := cmpf .olt main_v7 main_v8
  let main_cst_3 : FVec F S_ .f32 := constant S_ .f32 0x00000000#32
  let main_v10 : FVec F S256 .f32 := broadcastInDim S256 ![] bcast_S_S256 main_cst_3
  let main_v11 : IVec S256 1 := cmpf .oeq main_arg4 main_v10
  let main_cst_4 : FVec F S_ .f32 := constant S_ .f32 0x00000000#32
  let main_v12 : FVec F S128 .f32 := broadcastInDim S128 ![] bcast_S_S128 main_cst_4
  let main_v13 : IVec S128 1 := cmpf .oeq main_arg6 main_v12
  let main_cst_5 : FVec F S_ .f32 := constant S_ .f32 0x00000000#32
  let main_v14 : FVec F S2 .f32 := broadcastInDim S2 ![] bcast_S_S2 main_cst_5
  let main_v15 : IVec S2 1 := cmpf .oeq main_arg8 main_v14
  (main_v2, main_v4, main_v6, main_v9, main_v11, main_v13, main_v15)
-- ==== Kernel.lean ====
abbrev S16384x64 : Shape := ⟨2, ![16384, 64]⟩
abbrev S64 : Shape := ⟨1, ![64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S64x16384 : Shape := ⟨2, ![64, 16384]⟩
abbrev S128x256 : Shape := ⟨2, ![128, 256]⟩
abbrev S2x128 : Shape := ⟨2, ![2, 128]⟩
abbrev S2x16384 : Shape := ⟨2, ![2, 16384]⟩
abbrev S16384x2 : Shape := ⟨2, ![16384, 2]⟩
abbrev S64x1 : Shape := ⟨2, ![64, 1]⟩
abbrev S256x64 : Shape := ⟨2, ![256, 64]⟩
abbrev S1x64 : Shape := ⟨2, ![1, 64]⟩
abbrev S1x256 : Shape := ⟨2, ![1, 256]⟩
abbrev S256x1 : Shape := ⟨2, ![256, 1]⟩
abbrev S64x1024 : Shape := ⟨2, ![64, 1024]⟩
abbrev S256x1024 : Shape := ⟨2, ![256, 1024]⟩
abbrev S128x1024 : Shape := ⟨2, ![128, 1024]⟩
abbrev S2x1024 : Shape := ⟨2, ![2, 1024]⟩

abbrev nBuf : Space → Nat
  | .hbm => 17
  | .vmem => 5
  | .smem => 0
  | _ => 0

abbrev bufTy : (tb : Table) → Fin (tcTables nBuf tb) → BufTy
  | .hbm, ⟨0, _⟩ => ⟨S16384x64, .f32⟩
  | .hbm, ⟨1, _⟩ => ⟨S64, .f32⟩
  | .hbm, ⟨2, _⟩ => ⟨S64, .f32⟩
  | .hbm, ⟨3, _⟩ => ⟨S64x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S64x16384, .f32⟩
  | .hbm, ⟨10, _⟩ => ⟨S64x16384, .bf16⟩
  | .hbm, ⟨11, _⟩ => ⟨S128x256, .f32⟩
  | .hbm, ⟨12, _⟩ => ⟨S128x256, .bf16⟩
  | .hbm, ⟨13, _⟩ => ⟨S2x128, .f32⟩
  | .hbm, ⟨14, _⟩ => ⟨S2x128, .bf16⟩
  | .hbm, ⟨15, _⟩ => ⟨S2x16384, .f32⟩
  | .hbm, ⟨16, _⟩ => ⟨S16384x2, .f32⟩
  | .local _ .vmem, ⟨0, _⟩ => ⟨S64x16384, .bf16⟩
  | .local _ .vmem, ⟨1, _⟩ => ⟨S64x256, .f32⟩
  | .local _ .vmem, ⟨2, _⟩ => ⟨S128x256, .bf16⟩
  | .local _ .vmem, ⟨3, _⟩ => ⟨S2x128, .bf16⟩
  | .local _ .vmem, ⟨4, _⟩ => ⟨S2x16384, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_v0 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v32 : BitVec 32 := Scalar.addi c0_i32 c16_i32
  let c1_i32 : BitVec 32 := 1#32
  ⟨c0_i32, v32, c1_i32⟩
def k0_off1 (k0_t1 : Fin k0_t1_loop.trips) : Fin 2 → Nat :=
  let c0_14 : Index := 0#32
  let c0_i32 : BitVec 32 := 0#32
  let c1_i32 : BitVec 32 := 1#32
  let arg5 : BitVec 32 := Scf.iv c0_i32 c1_i32 k0_t1
  let c1024_i32 : BitVec 32 := 1024#32
  let v33 : BitVec 32 := Scalar.muli arg5 c1024_i32
  let v34 : Index := Scalar.indexCast v33
  ![0, v34.toNat]
def k0_off2 (k0_t1 : Fin k0_t1_loop.trips) : Fin 2 → Nat :=
  let c0_21 : Index := 0#32
  let c0_i32 : BitVec 32 := 0#32
  let c1_i32 : BitVec 32 := 1#32
  let arg5 : BitVec 32 := Scf.iv c0_i32 c1_i32 k0_t1
  let c1024_i32_20 : BitVec 32 := 1024#32
  let v48 : BitVec 32 := Scalar.muli arg5 c1024_i32_20
  let v49 : Index := Scalar.indexCast v48
  ![0, v49.toNat]
abbrev stage0_0 : Fin 1 → Memref sig .tc .vmem S64x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x64 : Shape := ⟨2, ![16384, 64]⟩
abbrev S64 : Shape := ⟨1, ![64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩
abbrev S1x64 : Shape := ⟨2, ![1, 64]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x2 : Shape := ⟨2, ![16384, 2]⟩
abbrev S1x2 : Shape := ⟨2, ![1, 2]⟩

abbrev nBuf : Space → Nat
  | .hbm => 71
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64, .f32⟩
  | .hbm, ⟨2, _⟩ => ⟨S64, .f32⟩
  | .hbm, ⟨3, _⟩ => ⟨S64x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .i32⟩
  | .hbm, ⟨15, _⟩ => ⟨S_, .f32⟩
  | .hbm, ⟨16, _⟩ => ⟨S64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S1x64, .f32⟩
  | .hbm, ⟨38, _⟩ => ⟨S16384x64, .f32⟩
  | .hbm, ⟨39, _⟩ => ⟨S16384x64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S1x64, .f32⟩
  | .hbm, ⟨45, _⟩ => ⟨S16384x64, .f32⟩
  | .hbm, ⟨46, _⟩ => ⟨S16384x64, .f32⟩
  | .hbm, ⟨47, _⟩ => ⟨S1x64, .f32⟩
  | .hbm, ⟨48, _⟩ => ⟨S16384x64, .f32⟩
  | .hbm, ⟨49, _⟩ => ⟨S16384x64, .f32⟩
  | .hbm, ⟨50, _⟩ => ⟨S1x64, .f32⟩
  | .hbm, ⟨51, _⟩ => ⟨S16384x64, .f32⟩
  | .hbm, ⟨52, _⟩ => ⟨S16384x64, .f32⟩
  | .hbm, ⟨53, _⟩ => ⟨S16384x256, .f32⟩
  | .hbm, ⟨54, _⟩ => ⟨S1x256, .f32⟩
  | .hbm, ⟨55, _⟩ => ⟨S16384x256, .f32⟩
  | .hbm, ⟨56, _⟩ => ⟨S16384x256, .f32⟩
  | .hbm, ⟨57, _⟩ => ⟨S_, .f32⟩
  | .hbm, ⟨58, _⟩ => ⟨S16384x256, .f32⟩
  | .hbm, ⟨59, _⟩ => ⟨S16384x256, .f32⟩
  | .hbm, ⟨60, _⟩ => ⟨S16384x128, .f32⟩
  | .hbm, ⟨61, _⟩ => ⟨S1x128, .f32⟩
  | .hbm, ⟨62, _⟩ => ⟨S16384x128, .f32⟩
  | .hbm, ⟨63, _⟩ => ⟨S16384x128, .f32⟩
  | .hbm, ⟨64, _⟩ => ⟨S_, .f32⟩
  | .hbm, ⟨65, _⟩ => ⟨S16384x128, .f32⟩
  | .hbm, ⟨66, _⟩ => ⟨S16384x128, .f32⟩
  | .hbm, ⟨67, _⟩ => ⟨S16384x2, .f32⟩
  | .hbm, ⟨68, _⟩ => ⟨S1x2, .f32⟩
  | .hbm, ⟨69, _⟩ => ⟨S16384x2, .f32⟩
  | .hbm, ⟨70, _⟩ => ⟨S16384x2, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_cst_3 : Ref sig .tc := ⟨.hbm, 31, rfl⟩
abbrev main_call0_v12 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_2 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩

abbrev nD : Nat := 1
abbrev τ : Topo := Topo.v7x

variable {F : FTy → Type} [FloatOps F]
-- ==== Proof.Spec.lean ====
/- What the kernel computes at one example, written over the extended reals and over coordinates: the batch
   statistics of each feature, the first layer's weights and bias with the normalisation folded in, and the three
   layers. No program is mentioned here. -/
module

public import Idealize.ShloMosaic.Lib.ValueIdx
public import Idealize.ShloMosaic.Lib.IdealHost
public import Idealize.ShloMosaic.PureOps.Ideal.Laws

@[expose] public section

noncomputable section

namespace Cert.Mlp

open Idealize.ShloMosaic

/-- The batch mean of a feature `f`: its sum over the examples times the kernel's constant for `1/16384`. -/
def kMean (f : Fin 16384 → EReal) : EReal := (∑ j, f j) * Ideal.ofBits .f32 0x38800000#32

/-- The kernel's batch variance of a feature: the mean of the squares minus the square of the mean. -/
def kVar (f : Fin 16384 → EReal) : EReal :=
  (∑ j, f j * f j) * Ideal.ofBits .f32 0x38800000#32 - kMean f * kMean f

/-- The factor the kernel scales a feature by: one over the square root of the variance plus epsilon. -/
def kScale (f : Fin 16384 → EReal) : EReal := Ideal.rsqrt (kVar f + Ideal.ofBits .f32 0x3727C5AC#32)

/-- The offset the kernel adds to a scaled feature: minus the mean, scaled. -/
def kShift (f : Fin 16384 → EReal) : EReal := (0 - kMean f) * kScale f

/-- The first layer at one example `x`, before the clamp, for one hidden unit of weights `w`: the batch statistics
are those of `X`, whose row `d` is feature `d` over the batch, and the normalisation is folded into the weights. -/
def kPre (X : Fin 64 → Fin 16384 → EReal) (w : Fin 64 → EReal) (x : Fin 64 → EReal) : EReal :=
  (∑ d, (w d * kScale (X d)) * x d) + ∑ d, kShift (X d) * w d

/-- The three layers at one example, for one output of weights `W3`. -/
def kOut (X : Fin 64 → Fin 16384 → EReal) (W1 : Fin 64 → Fin 256 → EReal) (W2 : Fin 128 → Fin 256 → EReal)
    (W3 : Fin 128 → EReal) (x : Fin 64 → EReal) : EReal :=
  ∑ k, W3 k * max (∑ h, W2 k h * max (kPre X (fun d => W1 d h) x) 0) 0

end Cert.Mlp

end
-- ==== Proof.Payload.lean ====
/- What one trip of the kernel's loop stores, read at an index over the extended reals. -/
module

public import proofs.«01_k».proof.Proof.Spec
public import proofs.«01_k».proof.Proof.Gen.KernelIdeal.Skeleton
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.KernelIdeal.Mlp

open Idealize.ShloMosaic Idealize.ShloMosaic.ValueIdx Cert.KernelIdeal Cert.KernelIdeal.Gen Cert.Mlp

/-- A column broadcast over many columns reads, at `(p, c)`, the column at `p`. -/
theorem broadcast_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column cast to a row reads, at `(u, i)`, the column at `i`. -/
theorem column_to_row {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    rw [Shape.rowMajor_val_two, Shape.rowMajor_val_two]
    show i.val * 1 + 0 = u.val * a + i.val
    have : u.val = 0 := by omega
    rw [this]; omega)

/-- A row cast to a column reads, at `(i, u)`, the row at `i`. -/
theorem row_to_column {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    rw [Shape.rowMajor_val_two, Shape.rowMajor_val_two]
    show 0 * a + i.val = i.val * 1 + u.val
    omega)

/-- The sum over a matrix's rows' entries reads, at `d`, the sum of row `d`. -/
theorem row_sum (src : FVec Ideal S64x16384 .f32) (h : S64x16384.Reduces [1] S64) (hφ : FKind.Formats .f32)
    (hacc : (0x00000000#32 : BitVec 32) = FKind.add.neutral .f32 hφ) (d : Fin 64) :
    multiReduction .add [1] S64 src 0x00000000#32 h hφ hacc (ix1 d) = ∑ j : Fin 16384, src (ix2 d j) := by
  rw [Ideal.multiReduction_add_single]
  refine Finset.sum_congr rfl fun j _ => congrArg src (funext fun a => Fin.ext ?_)
  match a with
  | ⟨0, _⟩ => rfl
  | ⟨1, _⟩ => rfl

/-- The kernel's plain product into a zero accumulator, read at an index. -/
theorem matmul_zero {M K N : ℕ} {φ₁ φ₂ : FTy} (D : DotDims ⟨2, ![M, K]⟩ ⟨2, ![K, N]⟩ ⟨2, ![M, N]⟩)
    (hD : D = DotDims.plain M K N) (lhs : FVec Ideal ⟨2, ![M, K]⟩ φ₁) (rhs : FVec Ideal ⟨2, ![K, N]⟩ φ₂) (r : Fin M) (c : Fin N) :
    matmul D none lhs rhs (constant (F := Ideal) ⟨2, ![M, N]⟩ .f32 0x00000000#32) (ix2 r c)
      = ∑ k : Fin K, lhs (ix2 r k) * rhs (ix2 k c) := by
  subst hD
  refine (Ideal.matmul_plain_apply none lhs rhs _ r c).trans ?_
  rw [constant_apply, show Ideal.ofBits .f32 0x00000000#32 = 0 by simp [Ideal.ofBits, Ideal.ieee], zero_add]

/-- A reciprocal square root at an index, from its operand there. -/
theorem rsqrt_of_eq {s : Shape} (v : FVec Ideal s .f32) (i : s.Idx) (y : EReal) (h : v i = y) : rsqrt v i = Ideal.rsqrt y := by
  subst h; rfl

set_option maxHeartbeats 1000000 in
/-- The trip's stored block at `(c, j)` is the three layers at example `j` of the trip's tile, for output `c`. -/
theorem payload_apply (v0 : Vec Ideal S64x16384 .bf16) (v20 : Vec Ideal S64x256 .f32) (v28 : Vec Ideal S128x256 .bf16)
    (v30 : Vec Ideal S2x128 .bf16) (v35 : Vec Ideal S64x1024 .bf16) (c : Fin 2) (j : Fin 1024) :
    k0_pay1 (F := Ideal) v0 v20 v28 v30 v35 (ix2 c j)
      = kOut (fun d b => v0 (ix2 d b)) (fun d h => v20 (ix2 d h)) (fun k h => v28 (ix2 k h)) (fun k => v30 (ix2 c k))
          (fun d => v35 (ix2 d j)) := by
  have hz : Ideal.ofBits .f32 0x00000000#32 = 0 := by simp [Ideal.ofBits, Ideal.ieee]
  have hzb : Ideal.ofBits .bf16 0x0000#16 = 0 := by simp [Ideal.ofBits, Ideal.ieee]
  have hm : ∀ d : Fin 64, ∀ src : FVec Ideal S64x16384 .f32, shapeCast S64x1 (multiReduction .add [1] S64 src 0x00000000#32 reduces_S64x16384_S64 (.inl rfl) rfl) shapeCasts_S64_S64x1 (ix2 d (0 : Fin 1))
      = ∑ j : Fin 16384, src (ix2 d j) := fun d src =>
    (shapeCast_a_a1_apply _ _ d 0).trans (row_sum _ _ _ _ d)
  have hmean : ∀ d : Fin 64, mulf (shapeCast S64x1 (multiReduction .add [1] S64 (extf .f32 v0 bitsLt_bf16_f32 : FVec Ideal S64x16384 .f32) 0x00000000#32 reduces_S64x16384_S64 (.inl rfl) rfl) shapeCasts_S64_S64x1)
      (broadcast S64x1 (Scalar.ofBits .f32 0x38800000#32)) (ix2 d (0 : Fin 1)) = kMean (fun b => v0 (ix2 d b)) := fun d =>
    congrArg (· * Ideal.ofBits .f32 0x38800000#32) (hm d _)
  have hscale : ∀ d : Fin 64, rsqrt (addf (subf (mulf (shapeCast S64x1 (multiReduction .add [1] S64 (mulf (extf .f32 v0 bitsLt_bf16_f32 : FVec Ideal S64x16384 .f32) (extf .f32 v0 bitsLt_bf16_f32 : FVec Ideal S64x16384 .f32)) 0x00000000#32 reduces_S64x16384_S64 (.inl rfl) rfl) shapeCasts_S64_S64x1) (broadcast S64x1 (Scalar.ofBits .f32 0x38800000#32)))
        (mulf (mulf (shapeCast S64x1 (multiReduction .add [1] S64 (extf .f32 v0 bitsLt_bf16_f32 : FVec Ideal S64x16384 .f32) 0x00000000#32 reduces_S64x16384_S64 (.inl rfl) rfl) shapeCasts_S64_S64x1) (broadcast S64x1 (Scalar.ofBits .f32 0x38800000#32))) (mulf (shapeCast S64x1 (multiReduction .add [1] S64 (extf .f32 v0 bitsLt_bf16_f32 : FVec Ideal S64x16384 .f32) 0x00000000#32 reduces_S64x16384_S64 (.inl rfl) rfl) shapeCasts_S64_S64x1) (broadcast S64x1 (Scalar.ofBits .f32 0x38800000#32)))))
        (broadcast S64x1 (Scalar.ofBits .f32 0x3727C5AC#32))) (ix2 d (0 : Fin 1)) = kScale (fun b => v0 (ix2 d b)) := fun d => by
    refine rsqrt_of_eq _ _ _ ((addf_apply (φ := .f32) _ _ _).trans (congrArg (· + Ideal.ofBits .f32 0x3727C5AC#32)
      ((subf_apply (φ := .f32) _ _ _).trans (congrArg₂ (· - ·) ?_ ?_))))
    · exact congrArg (· * Ideal.ofBits .f32 0x38800000#32) (hm d _)
    · exact congrArg₂ (· * ·) (hmean d) (hmean d)
  unfold k0_pay1
  simp only [shapeCast_self]
  refine (matmul_zero (φ₁ := .bf16) (φ₂ := .bf16) _ rfl _ _ c j).trans ?_
  unfold kOut
  refine Finset.sum_congr rfl fun k _ => congrArg (v30 (ix2 c k) * ·) ?_
  refine (maximumf_apply (φ := .bf16) _ _ _).trans (congrArg₂ max ?_ hzb)
  refine (matmul_zero (φ₁ := .bf16) (φ₂ := .bf16) _ rfl _ _ k j).trans ?_
  refine Finset.sum_congr rfl fun h _ => congrArg (v28 (ix2 k h) * ·) ?_
  refine (maximumf_apply (φ := .bf16) _ _ _).trans (congrArg₂ max ?_ hzb)
  refine (addf_apply (φ := .f32) _ _ (ix2 h j)).trans ?_
  unfold kPre
  refine congrArg₂ (· + ·) ((matmul_zero (φ₁ := .bf16) (φ₂ := .bf16) _ rfl _ _ h j).trans (Finset.sum_congr rfl fun d _ => congrArg (· * v35 (ix2 d j)) ?_))
    ((broadcast_column _ _ h j).trans ((row_to_column _ _ h 0).trans ((matmul_zero (φ₁ := .f32) (φ₂ := .f32) _ rfl _ _ 0 h).trans
      (Finset.sum_congr rfl fun d _ => congrArg (· * v20 (ix2 d h)) ?_))))
  · refine (transpose_ix2_apply _ _ h d).trans ((mulf_apply (φ := .f32) _ _ _).trans (congrArg (v20 (ix2 d h) * ·) ?_))
    exact (broadcast_column _ _ d h).trans (hscale d)
  · refine (column_to_row _ _ 0 d).trans ((mulf_apply (φ := .f32) _ _ _).trans (congrArg₂ (· * ·) ?_ (hscale d)))
    exact (subf_apply (φ := .f32) _ _ _).trans (congrArg₂ (· - ·) hz (hmean d))

end Cert.KernelIdeal.Mlp

end
-- ==== Proof.KernelRun.lean ====
/- The kernel's run, read: the output array the loop fills tile by tile holds the three layers at every example, and the
   program's result is its transpose. -/
module

public import proofs.«01_k».proof.Proof.Payload
public import proofs.«01_k».proof.Proof.Gen.KernelIdeal.Frame
public import Idealize.ShloMosaic.Lib.StableHlo.Run
public import Idealize.ShloMosaic.Lib.Tactic

@[expose] public section

noncomputable section

namespace Cert.KernelIdeal.Mlp

open Idealize.ShloMosaic Idealize.ShloMosaic.TcCoe Idealize.ShloMosaic.ValueIdx Idealize.SL.Sem
open Idealize.ShloMosaic.Pipeline (Dat)
open Cert.KernelIdeal Cert.KernelIdeal.Gen Cert.Mlp

/-- The offsets of a whole load are zero. -/
theorem zero_offsets : (![0, 0] : Fin 2 → Nat) = fun _ => 0 := funext fun a => by fin_cases a <;> rfl

/-- The loop makes sixteen trips. -/
theorem trips_eq : k0_t1_loop.trips = 16 := by decide

/-- Trip `k` loads its tile of examples from column `1024 k`. -/
theorem load_offset (k : Fin k0_t1_loop.trips) : k0_off1 k = ![0, 1024 * k.val] := by
  revert k; decide

/-- Trip `k` stores its tile of outputs at column `1024 k`. -/
theorem store_offset (k : Fin k0_t1_loop.trips) : k0_off2 k = ![0, 1024 * k.val] := by
  revert k; decide

section Pieces

variable (c : Dev nD) (bd : Option Variants.none.V) (arg0 : Memref sig .tc .vmem S64x16384 .bf16) (harg0 : arg0.IsWhole) (arg1 : Memref sig .tc .vmem S64x256 .f32) (harg1 : arg1.IsWhole) (arg2 : Memref sig .tc .vmem S128x256 .bf16) (harg2 : arg2.IsWhole) (arg3 : Memref sig .tc .vmem S2x128 .bf16) (harg3 : arg3.IsWhole) (arg4 : Memref sig .tc .vmem S2x16384 .f32) (harg4 : arg4.IsWhole)
  (v0 : Vec Ideal S64x16384 .bf16) (v20 : Vec Ideal S64x256 .f32) (v28 : Vec Ideal S128x256 .bf16) (v30 : Vec Ideal S2x128 .bf16)

/-- One trip's piece: the trip's tile of the output, at the trip's load. -/
def tile (X : Vec Ideal S64x16384 .bf16) (k : Fin k0_t1_loop.trips) : View.Piece (Elt Ideal) S2x16384 .f32 :=
  ⟨Rect.unit (s := S2x16384) (k0_off2 k) S2x1024.size (k0_off2_inb k),
    k0_pay1 (F := Ideal) v0 v20 v28 v30 (View.ld X (Rect.unit (s := S64x16384) (k0_off1 k) S64x1024.size (k0_off1_inb k)))⟩

/-- A trip writes exactly that piece. -/
theorem trip_pieces (X : BufTy.Contents (Elt Ideal) arg0.view.ty) (k : Fin k0_t1_loop.trips) :
    tripL_k0_t1 (F := Ideal) Variants.none c bd arg0 harg0 arg1 harg1 arg2 harg2 arg3 harg3 arg4 harg4 v0 v20 v28 v30 X k
      = [tile v0 v20 v28 v30 (arg0.view.read (Elt Ideal) X) k] := by
  unfold tripL_k0_t1 trip_k0_t1
  rfl

/-- Every piece the trips before `n` write is some trip's. -/
theorem mem_pieces (X : BufTy.Contents (Elt Ideal) arg0.view.ty) : ∀ n, n ≤ k0_t1_loop.trips →
    ∀ p ∈ pb_k0_t1 (F := Ideal) Variants.none c bd arg0 harg0 arg1 harg1 arg2 harg2 arg3 harg3 arg4 harg4 v0 v20 v28 v30 X n,
      ∃ k, p = tile v0 v20 v28 v30 (arg0.view.read (Elt Ideal) X) k
  | 0, _, p, hp => absurd hp (by simp [pb_k0_t1])
  | n + 1, hn, p, hp => by
    rw [pb_k0_t1_succ (k := ⟨n, hn⟩), trip_pieces] at hp
    rcases List.mem_append.mp hp with h | h
    · exact ⟨_, List.mem_singleton.mp h⟩
    · exact mem_pieces X n (Nat.le_of_succ_le hn) p h

/-- The whole output, as one function of its index: row `y 0` of the network at example `y 1`. -/
def outFn (y : S2x16384.Idx) : EReal :=
  kOut (fun d b => v0 (ix2 d b)) (fun d h => v20 (ix2 d h)) (fun k h => v28 (ix2 k h)) (fun k => v30 (ix2 (y 0) k))
    (fun d => v0 (ix2 d (y 1)))

/-- A trip's piece is its tile of the whole output. -/
theorem tile_apply (k : Fin k0_t1_loop.trips) (x : (tile v0 v20 v28 v30 v0 k).1.shape.Idx) :
    (tile v0 v20 v28 v30 v0 k).2 x = outFn v0 v20 v28 v30 ((tile v0 v20 v28 v30 v0 k).1.emb x) := by
  have e : x = ix2 (n0 := 2) (n1 := 1024) (x 0) (x 1) := eq_ix2 (n0 := 2) (n1 := 1024) x
  have h0 : (tile v0 v20 v28 v30 v0 k).1.emb x 0 = (x 0 : Fin 2) := Fin.ext (by
    show k0_off2 k 0 + 1 * (x 0).val = (x 0).val
    rw [store_offset]; simp)
  have h1 : ∀ d : Fin 64, View.ld v0 (Rect.unit (s := S64x16384) (k0_off1 k) S64x1024.size (k0_off1_inb k)) (ix2 d (x 1 : Fin 1024))
      = v0 (ix2 d ((tile v0 v20 v28 v30 v0 k).1.emb x 1)) := fun d => congrArg v0 (funext fun a => Fin.ext (by
    match a with
    | ⟨0, _⟩ => show k0_off1 k 0 + 1 * d.val = d.val; rw [load_offset]; simp
    | ⟨1, _⟩ => show k0_off1 k 1 + 1 * (x 1).val = k0_off2 k 1 + 1 * (x 1).val; rw [load_offset, store_offset]))
  refine (congrArg (k0_pay1 (F := Ideal) v0 v20 v28 v30 _) e).trans ((payload_apply _ _ _ _ _ _ _).trans ?_)
  unfold outFn
  rw [h0]
  simp only [h1]

/-- What the body leaves in the output's staging buffer: the whole output of the blocks it loads. -/
theorem out_eq : out0_A_4 (F := Ideal) c arg0 harg0 arg1 harg1 arg2 harg2 arg3 harg3 arg4 harg4 v0 v20 v28 v30 = outFn v0 v20 v28 v30 := by
  unfold out0_A_4
  rw [View.read_writes_eq_canon _ _ _ (cover0_A_4 c arg0 harg0 arg1 harg1 arg2 harg2 arg3 harg3 arg4 harg4 v0 v20 v28 v30)]
  funext y
  refine View.canon_apply_of_pieces (outFn v0 v20 v28 v30) _ ?_ y (cover0_A_4 c arg0 harg0 arg1 harg1 arg2 harg2 arg3 harg3 arg4 harg4 v0 v20 v28 v30 y)
  intro p hp
  have hp' : ∃ k, p = tile v0 v20 v28 v30 v0 k := by
    unfold kernelRun0_A at hp
    dsimp only at hp
    simp only [View.readAt_eq_ld, harg0.read_unread, harg1.read_unread, harg2.read_unread, harg3.read_unread,
      View.ld_unit_zero (S := S64x16384) zero_offsets, View.ld_unit_zero (S := S64x256) zero_offsets,
      View.ld_unit_zero (S := S128x256) zero_offsets, View.ld_unit_zero (S := S2x128) zero_offsets] at hp
    obtain ⟨k, hk⟩ := mem_pieces c none arg0 harg0 arg1 harg1 arg2 harg2 arg3 harg3 arg4 harg4 v0 v20 v28 v30 _ _ le_rfl p hp
    rw [harg0.read_unread] at hk
    exact ⟨k, hk⟩
  obtain ⟨k, rfl⟩ := hp'
  exact tile_apply v0 v20 v28 v30 k

end Pieces

section Run

variable (m : (ℓ : Loc nD τ sig) → Buf (Elt Ideal) ℓ) (ρ : Dev nD → PrngReg)

/-- The network as a function of the four arrays it reads, at an index of the result. -/
def network (x : S16384x64.Idx → EReal) (W1 : S64x256.Idx → EReal) (W2 : S256x128.Idx → EReal) (W3 : S128x2.Idx → EReal)
    (i : S16384x2.Idx) : EReal :=
  kOut (fun d b => x (ix2 b d)) (fun d h => W1 (ix2 d h)) (fun k h => W2 (ix2 h k)) (fun k => W3 (ix2 k (i 1)))
    (fun d => x (ix2 (i 0) d))

/-- The region's first array is the inputs, transposed. -/
theorem entry_x (c : Dev nD) : V m c main_call0_v1
    = (truncf (F := Ideal) .bf16 (transpose S64x16384 [1, 0] (m ((c : Thread nD τ).loc main_arg0)) transposes_S16384x64_S64x16384_1_0) bitsLt_bf16_f32 : FVec Ideal S64x16384 .bf16) := by
  show StableHlo.after hostOps0 (fun b => m (c, b)) (Proc.devRef .tc main_call0_v1) = _
  simp only [hostOps0, StableHlo.TRef.unary, StableHlo.TRef.toBuf, StableHlo.TRef.ofBuf, cast_eq]
  after_results_simp

/-- Its third is the second layer's weights, transposed. -/
theorem entry_W2 (c : Dev nD) : V m c main_call0_v3
    = (truncf (F := Ideal) .bf16 (transpose S128x256 [1, 0] (m ((c : Thread nD τ).loc main_arg5)) transposes_S256x128_S128x256_1_0) bitsLt_bf16_f32 : FVec Ideal S128x256 .bf16) := by
  show StableHlo.after hostOps0 (fun b => m (c, b)) (Proc.devRef .tc main_call0_v3) = _
  simp only [hostOps0, StableHlo.TRef.unary, StableHlo.TRef.toBuf, StableHlo.TRef.ofBuf, cast_eq]
  after_results_simp

/-- Its fourth is the third layer's weights, transposed. -/
theorem entry_W3 (c : Dev nD) : V m c main_call0_v5
    = (truncf (F := Ideal) .bf16 (transpose S2x128 [1, 0] (m ((c : Thread nD τ).loc main_arg7)) transposes_S128x2_S2x128_1_0) bitsLt_bf16_f32 : FVec Ideal S2x128 .bf16) := by
  show StableHlo.after hostOps0 (fun b => m (c, b)) (Proc.devRef .tc main_call0_v5) = _
  simp only [hostOps0, StableHlo.TRef.unary, StableHlo.TRef.toBuf, StableHlo.TRef.ofBuf, cast_eq]
  after_results_simp

/-- The first window's one block is its whole array, the inputs. -/
theorem block_x (c : Dev nD) (t : Fin cfg0.N) : iblk m c 0 t = V m c main_call0_v1 :=
  Memref.read_access_unit_zero (Elt Ideal) main_call0_v1 (funext fun a => Nat.zero_mul _) (fun a => by rw [Nat.zero_mul]; omega) _
/-- The second's is the first layer's weights, whole. -/
theorem block_W1 (c : Dev nD) (t : Fin cfg0.N) : iblk m c 1 t = V m c main_arg3 :=
  Memref.read_access_unit_zero (Elt Ideal) main_arg3 (funext fun a => Nat.zero_mul _) (fun a => by rw [Nat.zero_mul]; omega) _
/-- The third's is the second layer's weights, whole. -/
theorem block_W2 (c : Dev nD) (t : Fin cfg0.N) : iblk m c 2 t = V m c main_call0_v3 :=
  Memref.read_access_unit_zero (Elt Ideal) main_call0_v3 (funext fun a => Nat.zero_mul _) (fun a => by rw [Nat.zero_mul]; omega) _
/-- The fourth's is the third layer's weights, whole. -/
theorem block_W3 (c : Dev nD) (t : Fin cfg0.N) : iblk m c 3 t = V m c main_call0_v5 :=
  Memref.read_access_unit_zero (Elt Ideal) main_call0_v5 (funext fun a => Nat.zero_mul _) (fun a => by rw [Nat.zero_mul]; omega) _

/-- The output array the region leaves: the network's outputs, one row per output. -/
def regionOut (c : Dev nD) : Buf (Elt Ideal) ((c : Thread nD τ).loc main_call0_v6) :=
  outFn (V m c main_call0_v1) (V m c main_arg3) (V m c main_call0_v3) (V m c main_call0_v5)

/-- The one write-back writes it. -/
theorem flushed_eq (c : Dev nD) (t : Fin cfg0.N) (hf : (cfg0.win 4).flush t = true) :
    (dats m 0 c).flushed 4 t = ((cfg0.win 4).blk t).view.read (Elt Ideal) (regionOut m c) := by
  show (cfg0.win 4).cut (grid0.coords t) ((dats m 0 c).after 4 t) = _
  rw [after0_4]
  unfold outsAt0
  rw [out_eq, block_x, block_W1, block_W2, block_W3]
  exact (Memref.read_access_unit_zero (Elt Ideal) main_call0_v6 (funext fun a => Nat.zero_mul _) (fun a => by rw [Nat.zero_mul]; omega) (regionOut m c)).symm

/-- So the array ends holding it. -/
theorem final_out (c : Dev nD) : (dats m 0 c).arrAt 4 cfg0.N = regionOut m c :=
  (dats m 0 c).arrAt_eq_of_cover 4 (regionOut m c) (flushed_eq m c) fun i =>
    ⟨t0_0, flush0_4 _, by
      show i ∈ ((View.whole main_call0_v6).slice (win0_4.rect t0_0)).set
      rw [View.set_slice_whole, Rect.mem_set_unit]
      intro a
      show 0 * S2x16384.size a ≤ (i a : Nat) ∧ (i a : Nat) < 0 * S2x16384.size a + S2x16384.size a
      have := (i a).isLt
      rw [Nat.zero_mul, Nat.zero_add]
      exact ⟨Nat.zero_le _, this⟩⟩

/-- The program's result is the network of the arguments. -/
theorem result_eq (c : Dev nD) :
    Pipeline.afterTail₀ cfgs (dats m) 0 (V0 m) [hostOps1] c main_v0
      = network (m ((c : Thread nD τ).loc main_arg0)) (m ((c : Thread nD τ).loc main_arg3))
          (m ((c : Thread nD τ).loc main_arg5)) (m ((c : Thread nD τ).loc main_arg7)) := by
  have e : Pipeline.afterTail₀ cfgs (dats m) 0 (V0 m) [hostOps1] c main_v0
      = transpose S16384x2 [1, 0] (regionOut m c) transposes_S2x16384_S16384x2_1_0 := by
    have hw := (Pipeline.withArrays_arr spec0 winFacts0.arr_inj c (V0 m c) (fun w => (dats m 0 c).arrAt w cfg0.N) 4).trans (final_out m c)
    show StableHlo.after hostOps1 (Pipeline.withArrays spec0 c (V0 m c) fun w => (dats m 0 c).arrAt w cfg0.N) (Proc.devRef .tc main_v0) = _
    rw [← hw]
    simp only [hostOps1, StableHlo.TRef.unary, StableHlo.TRef.toBuf, StableHlo.TRef.ofBuf, cast_eq]
    after_results_simp
  rw [e]
  funext i
  obtain ⟨b, o, rfl⟩ : ∃ (b : Fin 16384) (o : Fin 2), i = ix2 b o := ⟨i 0, i 1, eq_ix2 i⟩
  refine (transpose_ix2_apply _ _ b o).trans ?_
  unfold regionOut outFn network
  rw [entry_x, entry_W2, entry_W3, V_main_arg3]
  simp only [truncf_apply]
  congr 1
  · funext d b; exact transpose_ix2_apply _ _ d b
  · funext k h; exact transpose_ix2_apply _ _ k h
  · funext k; exact transpose_ix2_apply _ _ o k
  · funext d; exact transpose_ix2_apply _ _ d b

/-- **The kernel's run**: the result is the network of the arguments. -/
theorem run : θ_run defs (onTc (τ := τ) (main (F := Ideal))) ⟨m, fun _ => 0, ρ⟩ fun r => ∀ c : Dev nD,
      r.2.mem ((c : Thread nD τ).loc main_v0)
        = network (m ((c : Thread nD τ).loc main_arg0)) (m ((c : Thread nD τ).loc main_arg3))
            (m ((c : Thread nD τ).loc main_arg5)) (m ((c : Thread nD τ).loc main_arg7)) :=
  (θ_run defs _ _).mono (fun _ h c => ((h c).2 main_v0 (Pipeline.mem_restRefs_of main_v0 (by decide) (by decide))).trans (result_eq m c))
    (run_main m ρ)

end Run

end Cert.KernelIdeal.Mlp

end
-- ==== Proof.BatchNorm.lean ====
/- The first layer over the reals: with finite inputs and finite first-layer weights, the kernel's folded form of batch
   normalisation and the textbook form agree. -/
module

public import proofs.«01_k».proof.Proof.Spec
public import Mathlib.Tactic.Linarith
public import Mathlib.Tactic.FieldSimp
public import Mathlib.Tactic.Ring
public import Mathlib.Tactic.NormNum
public import Mathlib.Tactic.Positivity

@[expose] public section

noncomputable section

namespace Cert.Mlp

open Idealize.ShloMosaic

/-- The literal `16384.0`. -/
theorem ofBits_count : Ideal.ofBits .f32 0x46800000#32 = ((16384 : ℝ) : EReal) := by
  simp [Ideal.ofBits, Ideal.ieee, -EReal.coe_mul]; norm_num

/-- The literal for one over the batch size is exactly that. -/
theorem ofBits_inv_count : Ideal.ofBits .f32 0x38800000#32 = ((1 / 16384 : ℝ) : EReal) := by
  simp [Ideal.ofBits, Ideal.ieee, -EReal.coe_mul]; norm_num

/-- Epsilon is a positive real. -/
theorem ofBits_eps : ∃ e : ℝ, 0 < e ∧ Ideal.ofBits .f32 0x3727C5AC#32 = (e : EReal) := by
  refine ⟨(10995116 / 1099511627776 : ℝ), by norm_num, ?_⟩
  simp [Ideal.ofBits, Ideal.ieee, -EReal.coe_mul]; norm_num

/-- A finite sum of reals, in the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The real mean of a feature. -/
def rMean (f : Fin 16384 → ℝ) : ℝ := (∑ j, f j) / 16384

/-- The real variance of a feature, as the mean squared deviation. -/
def rVar (f : Fin 16384 → ℝ) : ℝ := (∑ j, (f j - rMean f) * (f j - rMean f)) / 16384

/-- A variance is not negative. -/
theorem rVar_nonneg (f : Fin 16384 → ℝ) : 0 ≤ rVar f :=
  div_nonneg (Finset.sum_nonneg fun j _ => mul_self_nonneg _) (by norm_num)

/-- The mean of the squares minus the square of the mean is the mean squared deviation. -/
theorem rVar_eq (f : Fin 16384 → ℝ) : (∑ j, f j * f j) * (1 / 16384) - rMean f * rMean f = rVar f := by
  have h1 : ∑ j, f j = 16384 * rMean f := by unfold rMean; field_simp
  have h2 : ∑ j, (f j - rMean f) * (f j - rMean f) = (∑ j, f j * f j) - 16384 * (rMean f * rMean f) := by
    have : ∀ j, (f j - rMean f) * (f j - rMean f) = f j * f j - 2 * rMean f * f j + rMean f * rMean f := fun j => by ring
    simp only [this]
    rw [Finset.sum_add_distrib, Finset.sum_sub_distrib, ← Finset.mul_sum, h1, Finset.sum_const, Finset.card_univ,
      Fintype.card_fin, nsmul_eq_mul]
    push_cast; ring
  unfold rVar
  rw [h2]; ring

/-- The kernel's mean of a finite feature is its real mean. -/
theorem kMean_coe (f : Fin 16384 → ℝ) : kMean (fun j => (f j : EReal)) = (rMean f : EReal) := by
  unfold kMean rMean
  rw [coe_sum, ofBits_inv_count, ← EReal.coe_mul, div_eq_mul_one_div (∑ j, f j)]

/-- The kernel's variance of a finite feature is its real variance. -/
theorem kVar_coe (f : Fin 16384 → ℝ) : kVar (fun j => (f j : EReal)) = (rVar f : EReal) := by
  unfold kVar
  simp only [← EReal.coe_mul]
  rw [kMean_coe, coe_sum, ofBits_inv_count, ← EReal.coe_mul, ← EReal.coe_mul, ← EReal.coe_sub, rVar_eq]

/-- Epsilon as a real number. -/
def eps : ℝ := ofBits_eps.choose
/-- It is positive. -/
theorem eps_pos : 0 < eps := ofBits_eps.choose_spec.1
/-- It is the literal. -/
theorem ofBits_eps_eq : Ideal.ofBits .f32 0x3727C5AC#32 = (eps : EReal) := ofBits_eps.choose_spec.2

/-- The real standard deviation, epsilon included. -/
def rStd (f : Fin 16384 → ℝ) : ℝ := Real.sqrt (rVar f + eps)
/-- The standard deviation is positive. -/
theorem rStd_pos (f : Fin 16384 → ℝ) : 0 < rStd f := Real.sqrt_pos.mpr (add_pos_of_nonneg_of_pos (rVar_nonneg f) eps_pos)

/-- The kernel's scale of a finite feature is one over its standard deviation. -/
theorem kScale_coe (f : Fin 16384 → ℝ) : kScale (fun j => (f j : EReal)) = ((rStd f)⁻¹ : ℝ) := by
  have h : 0 < rVar f + eps := add_pos_of_nonneg_of_pos (rVar_nonneg f) eps_pos
  unfold kScale rStd
  rw [kVar_coe, ofBits_eps_eq, ← EReal.coe_add, Ideal.rsqrt_coe, if_neg (not_lt.mpr h.le), if_neg h.ne']

/-- The textbook mean: the sum over the examples divided by their number. -/
def tMean (f : Fin 16384 → EReal) : EReal := Ideal.div (∑ j, f j) (Ideal.ofBits .f32 0x46800000#32)

/-- The textbook variance: the mean squared deviation. -/
def tVar (f : Fin 16384 → EReal) : EReal :=
  Ideal.div (∑ j, (f j - tMean f) * (f j - tMean f)) (Ideal.ofBits .f32 0x46800000#32)

/-- The textbook normalised feature at one example. -/
def tNorm (f : Fin 16384 → EReal) (x : EReal) : EReal :=
  Ideal.div (x - tMean f) (Ideal.sqrt (tVar f + Ideal.ofBits .f32 0x3727C5AC#32))

/-- The textbook mean of a finite feature is its real mean. -/
theorem tMean_coe (f : Fin 16384 → ℝ) : tMean (fun j => (f j : EReal)) = (rMean f : EReal) := by
  unfold tMean rMean
  rw [coe_sum, ofBits_count, Ideal.div_coe (by norm_num), ← EReal.coe_mul, ← div_eq_mul_one_div]

/-- The textbook variance of a finite feature is its real variance. -/
theorem tVar_coe (f : Fin 16384 → ℝ) : tVar (fun j => (f j : EReal)) = (rVar f : EReal) := by
  unfold tVar rVar
  simp only [tMean_coe, ← EReal.coe_sub, ← EReal.coe_mul]
  rw [coe_sum, ofBits_count, Ideal.div_coe (by norm_num), ← EReal.coe_mul, ← div_eq_mul_one_div]

/-- The textbook normalised feature of finite data is the deviation over the standard deviation. -/
theorem tNorm_coe (f : Fin 16384 → ℝ) (x : ℝ) :
    tNorm (fun j => (f j : EReal)) x = (((x - rMean f) * (rStd f)⁻¹ : ℝ) : EReal) := by
  have h : 0 < rVar f + eps := add_pos_of_nonneg_of_pos (rVar_nonneg f) eps_pos
  have hs := rStd_pos f
  unfold tNorm
  rw [tMean_coe, tVar_coe, ofBits_eps_eq, ← EReal.coe_add, Ideal.sqrt_coe, if_neg (not_lt.mpr h.le), ← EReal.coe_sub,
    Ideal.div_coe (show Real.sqrt (rVar f + eps) ≠ 0 from hs.ne'), ← EReal.coe_mul, one_div]
  rfl

/-- **The folded first layer is the textbook one.** For finite inputs and finite weights, the scaled weights applied to the
raw example plus the folded bias is the weights applied to the normalised example. -/
theorem kPre_eq (X : Fin 64 → Fin 16384 → EReal) (w x : Fin 64 → EReal) (hX : ∀ d j, ∃ r : ℝ, X d j = r)
    (hw : ∀ d, ∃ r : ℝ, w d = r) (hx : ∀ d, ∃ r : ℝ, x d = r) :
    kPre X w x = ∑ d, tNorm (X d) (x d) * w d := by
  choose X' hX using hX
  choose w' hw using hw
  choose x' hx using hx
  obtain rfl : X = fun d j => (X' d j : EReal) := funext fun d => funext fun j => hX d j
  obtain rfl : w = fun d => (w' d : EReal) := funext hw
  obtain rfl : x = fun d => (x' d : EReal) := funext hx
  unfold kPre kShift
  simp only [kScale_coe, kMean_coe, tNorm_coe, zero_sub, ← EReal.coe_neg, ← EReal.coe_mul]
  rw [coe_sum, coe_sum, coe_sum, ← EReal.coe_add, ← Finset.sum_add_distrib]
  refine congrArg _ (Finset.sum_congr rfl fun d _ => ?_)
  ring

/-- The network of the textbook: batch normalisation, then three layers, with the products the other way round. -/
def tOut (X : Fin 64 → Fin 16384 → EReal) (W1 : Fin 64 → Fin 256 → EReal) (W2 : Fin 256 → Fin 128 → EReal)
    (W3 : Fin 128 → EReal) (x : Fin 64 → EReal) : EReal :=
  ∑ k, max (∑ h, max (∑ d, tNorm (X d) (x d) * W1 d h) 0 * W2 h k) 0 * W3 k

/-- **The kernel's network is the textbook's**, for finite inputs and finite first-layer weights; the other weights are
any extended reals. -/
theorem kOut_eq (X : Fin 64 → Fin 16384 → EReal) (W1 : Fin 64 → Fin 256 → EReal) (W2 : Fin 256 → Fin 128 → EReal)
    (W3 : Fin 128 → EReal) (x : Fin 64 → EReal) (hX : ∀ d j, ∃ r : ℝ, X d j = r)
    (hW : ∀ d h, ∃ r : ℝ, W1 d h = r) (hx : ∀ d, ∃ r : ℝ, x d = r) :
    kOut X W1 (fun k h => W2 h k) W3 x = tOut X W1 W2 W3 x := by
  unfold kOut tOut
  refine Finset.sum_congr rfl fun k _ => ?_
  rw [mul_comm]
  refine congrArg (fun s => max s 0 * W3 k) (Finset.sum_congr rfl fun h _ => ?_)
  rw [mul_comm, kPre_eq X _ x hX (fun d => hW d h) hx]

end Cert.Mlp

end
-- ==== Proof.RefValue.lean ====
/- The reference's result read at an index over the extended reals: batch normalisation as the textbook writes it, then
   the three layers. -/
module

public import proofs.«01_k».proof.Proof.BatchNorm
public import proofs.«01_k».proof.Proof.Gen.ReferenceIdeal.Read

@[expose] public section

noncomputable section

namespace Cert.ReferenceIdeal.Mlp

open Idealize.ShloMosaic Idealize.ShloMosaic.ValueIdx Cert.ReferenceIdeal Cert.ReferenceIdeal.Gen Cert.ReferenceIdeal.Read Cert.Mlp

/-- The zero literal. -/
theorem ofBits_zero : Ideal.ofBits .f32 0x00000000#32 = 0 := by simp [Ideal.ofBits, Ideal.ieee]

/-- Two indices of a two-axis array agree once their two coordinates do. -/
theorem idx2_ext {a b : Nat} {i j : (⟨2, ![a, b]⟩ : Shape).Idx} (h0 : i 0 = j 0) (h1 : i 1 = j 1) : i = j := by
  rw [eq_ix2 i, eq_ix2 j, h0, h1]

section

variable (x : S16384x64.Idx → EReal)

/-- The sum a feature's mean is taken of. -/
theorem feature_sum (d : Fin 64) : val_main_v0 (F := Ideal) x (ix1 d) = ∑ b, x (ix2 b d) := by
  rw [val_main_v0_apply, val_main_cst_apply]
  refine (congrArg (· + _) ofBits_zero).trans ?_
  rw [zero_add]
  exact Finset.sum_congr rfl fun k _ => congrArg x (idx2_ext rfl rfl)

/-- The reference's mean of feature `d`. -/
theorem mean_apply (d : Fin 64) : val_main_v2 (F := Ideal) x (ix1 d) = tMean (fun b => x (ix2 b d)) := by
  rw [val_main_v2_apply, feature_sum, val_main_v1_apply, val_main_cst_0_apply]
  rfl

/-- The mean the variance subtracts is the same one. -/
theorem inner_mean_apply (b : Fin 16384) (d : Fin 64) : val_main_call0_v4 (F := Ideal) x (ix2 b d) = tMean (fun b => x (ix2 b d)) := by
  have hs : val_main_call0_v0 (F := Ideal) x (ix1 d) = ∑ b, x (ix2 b d) := by
    rw [val_main_call0_v0_apply, val_main_call0_cst_apply]
    refine (congrArg (· + _) ofBits_zero).trans ?_
    rw [zero_add]
    exact Finset.sum_congr rfl fun k _ => congrArg x (idx2_ext rfl rfl)
  have hi : idx_main_call0_v1 (idx_main_call0_v4 (ix2 b d)) = ix1 d := eq_ix1 _
  rw [val_main_call0_v4_apply, val_main_call0_v3_apply, val_main_call0_v1_apply, hi, hs, val_main_call0_v2_apply,
    val_main_call0_cst_0_apply]
  rfl

/-- The number of examples less zero is the number of examples. -/
theorem count_apply (i : S_.Idx) : val_main_call0_v8 (F := Ideal) i = Ideal.ofBits .f32 0x46800000#32 := by
  rw [val_main_call0_v8_apply, val_main_call0_v7_apply, val_main_call0_cst_1_apply, val_main_c_apply]
  show Ideal.ofBits .f32 0x46800000#32 - (((0#32 : BitVec 32).toInt : ℝ) : EReal) = _
  simp

/-- That number is positive, so the guard holds. -/
theorem guard_apply (i : S_.Idx) : val_main_call0_v12 (F := Ideal) i = 1#1 := by
  rw [val_main_call0_v12_apply, count_apply, val_main_call0_cst_3_apply]
  show Ideal.cmp .ogt (Ideal.ofBits .f32 0x46800000#32) (Ideal.ofBits .f32 0x00000000#32) = 1#1
  rw [ofBits_zero, ofBits_count]
  have : (0 : EReal) < ((16384 : ℝ) : EReal) := by exact_mod_cast (by norm_num : (0 : ℝ) < 16384)
  simp [Ideal.cmp, this]

/-- The reference's variance of feature `d`. -/
theorem var_apply (d : Fin 64) : val_main_v3 (F := Ideal) x (ix1 d) = tVar (fun b => x (ix2 b d)) := by
  unfold val_main_v3
  rw [select_apply]
  have hg : broadcastInDim S64 ![] bcast_S_S64 (val_main_call0_v12 (F := Ideal)) (ix1 d) = 1#1 := guard_apply _
  have hs : val_main_call0_v9 (F := Ideal) x (ix1 d)
      = ∑ b, (x (ix2 b d) - tMean (fun b => x (ix2 b d))) * (x (ix2 b d) - tMean (fun b => x (ix2 b d))) := by
    rw [val_main_call0_v9_apply, val_main_call0_cst_2_apply]
    refine (congrArg (· + _) ofBits_zero).trans ?_
    rw [zero_add]
    refine Finset.sum_congr rfl fun k _ => ?_
    have hi : idx_main_call0_v9 (ix1 d) k = ix2 k d := idx2_ext rfl rfl
    rw [hi, val_main_call0_v6_apply, val_main_call0_v5_apply, inner_mean_apply]
    rfl
  rw [hg, select_one, val_main_call0_v11_apply, hs, val_main_call0_v10_apply, count_apply]
  rfl

/-- The reference's normalised feature `d` at example `b`. -/
theorem norm_apply (b : Fin 16384) (d : Fin 64) :
    val_main_v12 (F := Ideal) x (ix2 b d) = tNorm (fun b => x (ix2 b d)) (x (ix2 b d)) := by
  have h5 : idx_main_v4 (idx_main_v5 (ix2 b d)) = ix1 d := eq_ix1 _
  have h11 : idx_main_v10 (idx_main_v11 (ix2 b d)) = ix1 d := eq_ix1 _
  rw [val_main_v12_apply, val_main_v6_apply, val_main_v5_apply, val_main_v4_apply, h5, mean_apply, val_main_v11_apply,
    val_main_v10_apply, h11, val_main_v9_apply, val_main_v8_apply, var_apply, val_main_v7_apply, val_main_cst_1_apply]
  rfl

variable (gamma beta : S64.Idx → EReal) (W1 : S64x256.Idx → EReal) (b1 : S256.Idx → EReal) (W2 : S256x128.Idx → EReal)
  (b2 : S128.Idx → EReal) (W3 : S128x2.Idx → EReal) (b3 : S2.Idx → EReal)

/-- With the scale one and the shift zero, the first layer's input is the normalised feature. -/
theorem affine_apply (hg : ∀ d, gamma d = 1) (hb : ∀ d, beta d = 0) (b : Fin 16384) (d : Fin 64) :
    val_main_v18 (F := Ideal) x gamma beta (ix2 b d) = tNorm (fun b => x (ix2 b d)) (x (ix2 b d)) := by
  rw [val_main_v18_apply, val_main_v15_apply, norm_apply, val_main_v14_apply, val_main_v13_apply, hg, val_main_v17_apply,
    val_main_v16_apply, hb]
  exact (add_zero _).trans (mul_one _)

/-- The first layer with its bias zero. -/
theorem layer1_apply (hg : ∀ d, gamma d = 1) (hb : ∀ d, beta d = 0) (h1 : ∀ h, b1 h = 0) (b : Fin 16384) (h : Fin 256) :
    val_main_v24 (F := Ideal) x gamma beta W1 b1 (ix2 b h)
      = max (∑ d : Fin 64, tNorm (fun b => x (ix2 b d)) (x (ix2 b d)) * W1 (ix2 d h)) 0 := by
  have hs : val_main_v19 (F := Ideal) x gamma beta W1 (ix2 b h)
      = ∑ d : Fin 64, tNorm (fun b => x (ix2 b d)) (x (ix2 b d)) * W1 (ix2 d h) := by
    rw [val_main_v19_apply]
    refine Finset.sum_congr rfl fun d _ => ?_
    have el : lidx_main_v19 (ix2 b h) d = ix2 b d := idx2_ext rfl rfl
    have er : ridx_main_v19 (ix2 b h) d = ix2 d h := idx2_ext rfl rfl
    rw [el, er, affine_apply x gamma beta hg hb]
  rw [val_main_v24_apply, val_main_v22_apply, hs, val_main_v21_apply, val_main_v20_apply, h1, val_main_v23_apply,
    val_main_cst_2_apply]
  exact congrArg₂ max (add_zero _) ofBits_zero

/-- The second layer with its bias zero. -/
theorem layer2_apply (hg : ∀ d, gamma d = 1) (hb : ∀ d, beta d = 0) (h1 : ∀ h, b1 h = 0) (h2 : ∀ k, b2 k = 0)
    (b : Fin 16384) (k : Fin 128) :
    val_main_v30 (F := Ideal) x gamma beta W1 b1 W2 b2 (ix2 b k)
      = max (∑ h : Fin 256, max (∑ d : Fin 64, tNorm (fun b => x (ix2 b d)) (x (ix2 b d)) * W1 (ix2 d h)) 0 * W2 (ix2 h k)) 0 := by
  have hs : val_main_v25 (F := Ideal) x gamma beta W1 b1 W2 (ix2 b k)
      = ∑ h : Fin 256, max (∑ d : Fin 64, tNorm (fun b => x (ix2 b d)) (x (ix2 b d)) * W1 (ix2 d h)) 0 * W2 (ix2 h k) := by
    rw [val_main_v25_apply]
    refine Finset.sum_congr rfl fun h _ => ?_
    have el : lidx_main_v25 (ix2 b k) h = ix2 b h := idx2_ext rfl rfl
    have er : ridx_main_v25 (ix2 b k) h = ix2 h k := idx2_ext rfl rfl
    rw [el, er, layer1_apply x gamma beta W1 b1 hg hb h1]
  rw [val_main_v30_apply, val_main_v28_apply, hs, val_main_v27_apply, val_main_v26_apply, h2, val_main_v29_apply,
    val_main_cst_3_apply]
  exact congrArg₂ max (add_zero _) ofBits_zero

/-- **The reference's result** at example `b` and output `c`, the scale being one and the shift and biases zero. -/
theorem result_apply (hg : ∀ d, gamma d = 1) (hb : ∀ d, beta d = 0) (h1 : ∀ h, b1 h = 0) (h2 : ∀ k, b2 k = 0)
    (h3 : ∀ c, b3 c = 0) (b : Fin 16384) (c : Fin 2) :
    val_main_v34 (F := Ideal) x gamma beta W1 b1 W2 b2 W3 b3 (ix2 b c)
      = tOut (fun d j => x (ix2 j d)) (fun d h => W1 (ix2 d h)) (fun h k => W2 (ix2 h k)) (fun k => W3 (ix2 k c))
          (fun d => x (ix2 b d)) := by
  have hs : val_main_v31 (F := Ideal) x gamma beta W1 b1 W2 b2 W3 (ix2 b c)
      = tOut (fun d j => x (ix2 j d)) (fun d h => W1 (ix2 d h)) (fun h k => W2 (ix2 h k)) (fun k => W3 (ix2 k c))
          (fun d => x (ix2 b d)) := by
    rw [val_main_v31_apply]
    refine Finset.sum_congr rfl fun k _ => ?_
    have el : lidx_main_v31 (ix2 b c) k = ix2 b k := idx2_ext rfl rfl
    have er : ridx_main_v31 (ix2 b c) k = ix2 k c := idx2_ext rfl rfl
    rw [el, er, layer2_apply x gamma beta W1 b1 W2 b2 hg hb h1 h2]
  rw [val_main_v34_apply, hs, val_main_v33_apply, val_main_v32_apply, h3]
  exact add_zero _

end

end Cert.ReferenceIdeal.Mlp

end
-- ==== Proof.Drawn.lean ====
/- What the precondition says of the arguments, element by element, over the extended reals. -/
module

public import proofs.«01_k».proof.Pre_as_drawn
public import Idealize.ShloMosaic.PureOps.Ideal
public import Mathlib.Tactic.NormNum

@[expose] public section

noncomputable section

namespace Cert.Pre_as_drawn

open Idealize.ShloMosaic

/-- The shape relations the precondition's operations take. -/
theorem shapeFacts : Facts :=
  ⟨by decide, by decide, by decide, by decide, by decide, by decide⟩

/-- A number whose absolute value is below infinity is a real. -/
theorem real_of_abs_lt {a : EReal} (h : Ideal.cmp .olt (max a (-a)) (Ideal.ofBits .f32 0x7F800000#32) = 1#1) :
    ∃ r : ℝ, a = r := by
  have ht : Ideal.ofBits .f32 0x7F800000#32 = ⊤ := by simp [Ideal.ofBits, Ideal.ieee]
  rw [ht] at h
  induction a with
  | bot => simp [Ideal.cmp] at h
  | coe r => exact ⟨r, rfl⟩
  | top => simp [Ideal.cmp] at h

/-- Two numbers that compare equal are equal. -/
theorem eq_of_cmp {a b : EReal} (h : Ideal.cmp .oeq a b = 1#1) : a = b := by
  by_contra hn
  simp [Ideal.cmp, hn] at h

/-- The literal one. -/
theorem ofBits_one : Ideal.ofBits .f32 0x3F800000#32 = 1 := by
  simp [Ideal.ofBits, Ideal.ieee, -EReal.coe_mul]; norm_num

/-- The literal zero. -/
theorem ofBits_zero : Ideal.ofBits .f32 0x00000000#32 = 0 := by simp [Ideal.ofBits, Ideal.ieee]

/-- The precondition read: inputs and first-layer weights are real, the scale is one, the shift and the biases zero. -/
theorem read [Facts] (x : S16384x64.Idx → EReal) (gamma beta : S64.Idx → EReal) (W1 : S64x256.Idx → EReal)
    (b1 : S256.Idx → EReal) (W2 : S256x128.Idx → EReal) (b2 : S128.Idx → EReal) (W3 : S128x2.Idx → EReal)
    (b3 : S2.Idx → EReal)
    (h : (fn (F := Ideal) x gamma beta W1 b1 W2 b2 W3 b3).1 = (fun _ => 1#1)
      ∧ (fn (F := Ideal) x gamma beta W1 b1 W2 b2 W3 b3).2.1 = (fun _ => 1#1)
      ∧ (fn (F := Ideal) x gamma beta W1 b1 W2 b2 W3 b3).2.2.1 = (fun _ => 1#1)
      ∧ (fn (F := Ideal) x gamma beta W1 b1 W2 b2 W3 b3).2.2.2.1 = (fun _ => 1#1)
      ∧ (fn (F := Ideal) x gamma beta W1 b1 W2 b2 W3 b3).2.2.2.2.1 = (fun _ => 1#1)
      ∧ (fn (F := Ideal) x gamma beta W1 b1 W2 b2 W3 b3).2.2.2.2.2.1 = (fun _ => 1#1)
      ∧ (fn (F := Ideal) x gamma beta W1 b1 W2 b2 W3 b3).2.2.2.2.2.2 = (fun _ => 1#1)) :
    (∀ i, ∃ r : ℝ, x i = r) ∧ (∀ i, gamma i = 1) ∧ (∀ i, beta i = 0) ∧ (∀ i, ∃ r : ℝ, W1 i = r)
      ∧ (∀ i, b1 i = 0) ∧ (∀ i, b2 i = 0) ∧ (∀ i, b3 i = 0) := by
  obtain ⟨hx, hg, hb, hW, h1, h2, h3⟩ := h
  exact ⟨fun i => real_of_abs_lt (congrFun hx i), fun i => (eq_of_cmp (congrFun hg i)).trans ofBits_one,
    fun i => (eq_of_cmp (congrFun hb i)).trans ofBits_zero, fun i => real_of_abs_lt (congrFun hW i),
    fun i => (eq_of_cmp (congrFun h1 i)).trans ofBits_zero, fun i => (eq_of_cmp (congrFun h2 i)).trans ofBits_zero,
    fun i => (eq_of_cmp (congrFun h3 i)).trans ofBits_zero⟩

end Cert.Pre_as_drawn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefValue
public import proofs.«01_k».proof.Proof.Drawn
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem

/-- The precondition's shape relations. -/
instance : Cert.Pre_as_drawn.Facts := Cert.Pre_as_drawn.shapeFacts

/-- The two networks agree where the precondition holds: the kernel's, folded, and the reference's, with its scale, shift
    and biases. -/
theorem networks_agree (x : Cert.Pre_as_drawn.S16384x64.Idx → EReal) (gamma beta : Cert.Pre_as_drawn.S64.Idx → EReal)
    (W1 : Cert.Pre_as_drawn.S64x256.Idx → EReal) (b1 : Cert.Pre_as_drawn.S256.Idx → EReal)
    (W2 : Cert.Pre_as_drawn.S256x128.Idx → EReal) (b2 : Cert.Pre_as_drawn.S128.Idx → EReal)
    (W3 : Cert.Pre_as_drawn.S128x2.Idx → EReal) (b3 : Cert.Pre_as_drawn.S2.Idx → EReal)
    (hx : ∀ i, ∃ r : ℝ, x i = r) (hg : ∀ i, gamma i = 1) (hb : ∀ i, beta i = 0) (hW : ∀ i, ∃ r : ℝ, W1 i = r)
    (h1 : ∀ i, b1 i = 0) (h2 : ∀ i, b2 i = 0) (h3 : ∀ i, b3 i = 0) :
    Cert.ReferenceIdeal.Read.val_main_v34 (F := Ideal) x gamma beta W1 b1 W2 b2 W3 b3
      = Cert.KernelIdeal.Mlp.network x W1 W2 W3 := by
  funext i
  obtain ⟨b, o, rfl⟩ : ∃ (b : Fin 16384) (o : Fin 2), i = ix2 b o := ⟨i 0, i 1, eq_ix2 i⟩
  refine (Cert.ReferenceIdeal.Mlp.result_apply x gamma beta W1 b1 W2 b2 W3 b3 (fun _ => hg _) (fun _ => hb _)
    (fun _ => h1 _) (fun _ => h2 _) (fun _ => h3 _) b o).trans ?_
  exact (Cert.Mlp.kOut_eq _ _ _ _ _ (fun _ _ => hx _) (fun _ _ => hW _) (fun _ => hx _)).symm

/-- The reference's frame: its run leaves the arguments, and it signals nothing. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The value claim: from memories agreeing on arguments of which the precondition holds, the two results are equal. -/
theorem value : Cert.algebraic_KernelIdeal_ReferenceIdeal_pre_as_drawn := by
  intro m ρ m' ρ' hpre hagree
  refine ⟨fun c => Cert.KernelIdeal.Mlp.network (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7)),
    (θ_run _ _ _).mono (fun _ h c => ⟨h.1 c, h.2 c⟩)
      (θ_run_and (Cert.KernelIdeal.Mlp.run m ρ) (Cert.KernelIdeal.Gen.unchanged (F := Ideal) m ρ)), ?_⟩
  refine (θ_run _ _ _).mono (fun _ h c => ⟨(h c).1.trans ?_, (h c).2⟩) (Cert.ReferenceIdeal.Value.run (F := Ideal) m' ρ')
  obtain ⟨e0, e1, e2, e3, e4, e5, e6, e7, e8⟩ := hagree c
  obtain ⟨hx, hg, hb, hW, h1, h2, h3⟩ := Cert.Pre_as_drawn.read _ _ _ _ _ _ _ _ _ (hpre c)
  rw [e0, e1, e2, e3, e4, e5, e6, e7, e8]
  exact (Cert.ReferenceIdeal.Read.val_main_v34_eq (F := Ideal) _ _ _ _ _ _ _ _ _).trans
    (networks_agree _ _ _ _ _ _ _ _ _ hx hg hb hW h1 h2 h3)

/-- Everything the certificate claims. -/
theorem claim : Cert.Claim :=
  ⟨Cert.Kernel.Gen.facts, Cert.KernelIdeal.Gen.facts, Cert.ReferenceIdeal.Gen.facts, Cert.Pre_as_drawn.shapeFacts,
    fun m ρ _ => Cert.Kernel.Gen.frame (F := Bits) m ρ,
    fun m ρ _ => Cert.KernelIdeal.Gen.frame (F := Ideal) m ρ,
    fun m ρ _ => Cert.KernelIdeal.Gen.frame (F := Ideal) m ρ,
    reference_frame,
    fun m ρ _ => reference_frame m ρ trivial,
    trivial,
    value⟩

end Cert.Proof

end
